-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_no_tie [hPre_finite_no_tie : Cert.Pre_finite_no_tie.Facts] (m : (ℓ : Loc Cert.KernelIdeal.nD Cert.KernelIdeal.τ Cert.KernelIdeal.sig) → Buf (Elt Ideal) ℓ) : Prop :=
  ∀ c : Dev Cert.KernelIdeal.nD,
    (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.1 = (fun _ => 1#1)
    ∧ (Cert.Pre_finite_no_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_no_tie [hPre_finite_no_tie : Cert.Pre_finite_no_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.1 = (fun _ => 1#1)
    ∧ (Cert.Pre_finite_no_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_no_tie [hKernelIdeal : Cert.KernelIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_no_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_no_tie [hReferenceIdeal : Cert.ReferenceIdeal.Facts] [hPre_finite_no_tie : Cert.Pre_finite_no_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_no_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_no_tie [hKernelIdeal : Cert.KernelIdeal.Facts] [hReferenceIdeal : Cert.ReferenceIdeal.Facts] [hPre_finite_no_tie : Cert.Pre_finite_no_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_no_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_no_tie : Cert.Pre_finite_no_tie.Facts),
    quiescent_Kernel (hKernel := hKernel)
    ∧ quiescent_KernelIdeal (hKernelIdeal := hKernelIdeal)
    ∧ quiescent_KernelIdeal_pre_finite_no_tie (hKernelIdeal := hKernelIdeal) (hPre_finite_no_tie := hPre_finite_no_tie)
    ∧ quiescent_ReferenceIdeal (hReferenceIdeal := hReferenceIdeal)
    ∧ quiescent_ReferenceIdeal_pre_finite_no_tie (hReferenceIdeal := hReferenceIdeal) (hPre_finite_no_tie := hPre_finite_no_tie)
    ∧ preserves_Kernel_KernelIdeal
    ∧ algebraic_KernelIdeal_ReferenceIdeal_pre_finite_no_tie (hKernelIdeal := hKernelIdeal) (hReferenceIdeal := hReferenceIdeal) (hPre_finite_no_tie := hPre_finite_no_tie)
-- ==== Pre_finite_no_tie.lean ====
abbrev S64x1024x32 : Shape := ⟨3, ![64, 1024, 32]⟩
abbrev S1024x32 : Shape := ⟨2, ![1024, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩
abbrev S32x1024 : Shape := ⟨2, ![32, 1024]⟩

class Facts : Prop where
  shapeCasts_S64x1024x32_S65536x32 : S64x1024x32.ShapeCasts S65536x32
  reducesTo_S65536x32_S65536_d1 : S65536x32.ReducesTo [1] S65536
  h_S_ : 0 < S_.numel
  bcast_S65536_S65536x1_0 : S65536.BroadcastsInDim S65536x1 (![0] : Fin 1 → Fin S65536x1.rank)
  reducesTo_S1024x32_S1024_d1 : S1024x32.ReducesTo [1] S1024
  bcast_S1024_S1x1024_1 : S1024.BroadcastsInDim S1x1024 (![1] : Fin 1 → Fin S1x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  transposes_S1024x32_S32x1024_1_0 : S1024x32.Transposes [1, 0] S32x1024
  bcast_S_S65536x1024 : S_.BroadcastsInDim S65536x1024 (![] : Fin 0 → Fin S65536x1024.rank)
  reducesTo_S65536x1024_S65536_d1 : S65536x1024.ReducesTo [1] S65536
  bcast_S_S64x1024x32 : S_.BroadcastsInDim S64x1024x32 (![] : Fin 0 → Fin S64x1024x32.rank)
  bcast_S_S1024x32 : S_.BroadcastsInDim S1024x32 (![] : Fin 0 → Fin S1024x32.rank)
  bcast_S_S65536 : S_.BroadcastsInDim S65536 (![] : Fin 0 → Fin S65536.rank)
  dot_S65536x32_S32x1024_S65536x1024_1_0_0_1_n_n_wf : DotDims.WF S65536x32 S32x1024 S65536x1024 [1] [0] [0] [1] [] []

variable [Facts]

def dot_S65536x32_S32x1024_S65536x1024_1_0_0_1_n_n : DotDims S65536x32 S32x1024 S65536x1024 where
  lhsContracting := [1]
  rhsContracting := [0]
  lhsNonContracting := [0]
  rhsNonContracting := [1]
  lhsBatch := []
  rhsBatch := []
  wf := dot_S65536x32_S32x1024_S65536x1024_1_0_0_1_n_n_wf
def fn_part1 {F : FTy → Type} [FloatOps F] (main_arg0 : FVec F S64x1024x32 .f32) (main_arg1 : FVec F S1024x32 .f32) (main_v19 : FVec F S65536x1024 .f32) : IVec S64x1024x32 1 × IVec S1024x32 1 × IVec S65536 1 :=
  let main_cst_3 : FVec F S_ .f32 := constant S_ .f32 0x00000000#32
  let main_v20 : FVec F S65536 .f32 := (fun x v => Host.reduceAdd x v reducesTo_S65536x1024_S65536_d1 h_S_) main_v19 main_cst_3
  let main_v21 : FVec F S64x1024x32 .f32 := Host.absf main_arg0
  let main_cst_4 : FVec F S_ .f32 := constant S_ .f32 0x7F800000#32
  let main_v22 : FVec F S64x1024x32 .f32 := broadcastInDim S64x1024x32 ![] bcast_S_S64x1024x32 main_cst_4
  let main_v23 : IVec S64x1024x32 1 := cmpf .olt main_v21 main_v22
  let main_v24 : FVec F S1024x32 .f32 := Host.absf main_arg1
  let main_cst_5 : FVec F S_ .f32 := constant S_ .f32 0x7F800000#32
  let main_v25 : FVec F S1024x32 .f32 := broadcastInDim S1024x32 ![] bcast_S_S1024x32 main_cst_5
  let main_v26 : IVec S1024x32 1 := cmpf .olt main_v24 main_v25
  let main_cst_6 : FVec F S_ .f32 := constant S_ .f32 0x3F800000#32
  let main_v27 : FVec F S65536 .f32 := broadcastInDim S65536 ![] bcast_S_S65536 main_cst_6
  let main_v28 : IVec S65536 1 := cmpf .oeq main_v20 main_v27
  (main_v23, main_v26, main_v28)

def fn {F : FTy → Type} [FloatOps F] (main_arg0 : FVec F S64x1024x32 .f32) (main_arg1 : FVec F S1024x32 .f32) : IVec S64x1024x32 1 × IVec S1024x32 1 × IVec S65536 1 :=
  let main_v0 : FVec F S65536x32 .f32 := shapeCast S65536x32 main_arg0 shapeCasts_S64x1024x32_S65536x32
  let main_v1 : FVec F S65536x32 .f32 := mulf main_v0 main_v0
  let main_cst : FVec F S_ .f32 := constant S_ .f32 0x00000000#32
  let main_v2 : FVec F S65536 .f32 := (fun x v => Host.reduceAdd x v reducesTo_S65536x32_S65536_d1 h_S_) main_v1 main_cst
  let main_v3 : FVec F S65536x1 .f32 := broadcastInDim S65536x1 ![0] bcast_S65536_S65536x1_0 main_v2
  let main_v4 : FVec F S1024x32 .f32 := mulf main_arg1 main_arg1
  let main_cst_0 : FVec F S_ .f32 := constant S_ .f32 0x00000000#32
  let main_v5 : FVec F S1024 .f32 := (fun x v => Host.reduceAdd x v reducesTo_S1024x32_S1024_d1 h_S_) main_v4 main_cst_0
  let main_v6 : FVec F S1x1024 .f32 := broadcastInDim S1x1024 ![1] bcast_S1024_S1x1024_1 main_v5
  let main_v7 : FVec F S65536x1024 .f32 := broadcastInDim S65536x1024 ![0, 1] bcast_S65536x1_S65536x1024_0_1 main_v3
  let main_v8 : FVec F S65536x1024 .f32 := broadcastInDim S65536x1024 ![0, 1] bcast_S1x1024_S65536x1024_0_1 main_v6
  let main_v9 : FVec F S65536x1024 .f32 := addf main_v7 main_v8
  let main_v10 : FVec F S32x1024 .f32 := (transpose S32x1024 [1, 0] · transposes_S1024x32_S32x1024_1_0) main_arg1
  let main_v11 : FVec F S65536x1024 .f32 := (fun l r => Host.dotGeneral dot_S65536x32_S32x1024_S65536x1024_1_0_0_1_n_n none l r) main_v0 main_v10
  let main_cst_1 : FVec F S_ .f32 := constant S_ .f32 0x40000000#32
  let main_v12 : FVec F S65536x1024 .f32 := broadcastInDim S65536x1024 ![] bcast_S_S65536x1024 main_cst_1
  let main_v13 : FVec F S65536x1024 .f32 := mulf main_v12 main_v11
  let main_v14 : FVec F S65536x1024 .f32 := subf main_v9 main_v13
  let main_cst_2 : FVec F S_ .f32 := constant S_ .f32 0x7F800000#32
  let main_v15 : FVec F S65536 .f32 := (fun x v => Host.reduce FloatOps.minimumf x v reducesTo_S65536x1024_S65536_d1 h_S_) main_v14 main_cst_2
  let main_v16 : FVec F S65536x1 .f32 := broadcastInDim S65536x1 ![0] bcast_S65536_S65536x1_0 main_v15
  let main_v17 : FVec F S65536x1024 .f32 := broadcastInDim S65536x1024 ![0, 1] bcast_S65536x1_S65536x1024_0_1 main_v16
  let main_v18 : IVec S65536x1024 1 := cmpf .ole main_v14 main_v17
  let main_v19 : FVec F S65536x1024 .f32 := uitofp .f32 main_v18
  fn_part1 (F := F) main_arg0 main_arg1 main_v19
-- ==== Kernel.lean ====
abbrev S64x1024x32 : Shape := ⟨3, ![64, 1024, 32]⟩
abbrev S1024x32 : Shape := ⟨2, ![1024, 32]⟩
abbrev S65536x32 : Shape := ⟨2, ![65536, 32]⟩
abbrev S32x1024 : Shape := ⟨2, ![32, 1024]⟩
abbrev S_ : Shape := ⟨0, ![]⟩
abbrev S1024 : Shape := ⟨1, ![1024]⟩
abbrev S1x1024 : Shape := ⟨2, ![1, 1024]⟩
abbrev S1024x1 : Shape := ⟨2, ![1024, 1]⟩
abbrev S1024x33 : Shape := ⟨2, ![1024, 33]⟩
abbrev S65536x1 : Shape := ⟨2, ![65536, 1]⟩
abbrev S64x1024 : Shape := ⟨2, ![64, 1024]⟩
abbrev S8192x32 : Shape := ⟨2, ![8192, 32]⟩
abbrev S8192x1 : Shape := ⟨2, ![8192, 1]⟩
abbrev S8192x1024 : Shape := ⟨2, ![8192, 1024]⟩
abbrev S8192 : Shape := ⟨1, ![8192]⟩
abbrev S8192x33 : Shape := ⟨2, ![8192, 33]⟩

abbrev nBuf : Space → Nat
  | .hbm => 17
  | .vmem => 9
  | .smem => 0
  | _ => 0

abbrev bufTy : (tb : Table) → Fin (tcTables nBuf tb) → BufTy
  | .hbm, ⟨0, _⟩ => ⟨S64x1024x32, .f32⟩
  | .hbm, ⟨1, _⟩ => ⟨S1024x32, .f32⟩
  | .hbm, ⟨2, _⟩ => ⟨S65536x32, .f32⟩
  | .hbm, ⟨3, _⟩ => ⟨S32x1024, .f32⟩
  | .hbm, ⟨4, _⟩ => ⟨S_, .f32⟩
  | .hbm, ⟨5, _⟩ => ⟨S32x1024, .f32⟩
  | .hbm, ⟨6, _⟩ => ⟨S32x1024, .f32⟩
  | .hbm, ⟨7, _⟩ => ⟨S1024x32, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1024x1, .f32⟩
  | .hbm, ⟨12, _⟩ => ⟨S1024x33, .f32⟩
  | .hbm, ⟨13, _⟩ => ⟨S65536x32, .f32⟩
  | .hbm, ⟨14, _⟩ => ⟨S65536x1, .i32⟩
  | .hbm, ⟨15, _⟩ => ⟨S64x1024x32, .f32⟩
  | .hbm, ⟨16, _⟩ => ⟨S64x1024, .i32⟩
  | .local _ .vmem, ⟨0, _⟩ => ⟨S8192x32, .f32⟩
  | .local _ .vmem, ⟨1, _⟩ => ⟨S8192x32, .f32⟩
  | .local _ .vmem, ⟨2, _⟩ => ⟨S32x1024, .f32⟩
  | .local _ .vmem, ⟨3, _⟩ => ⟨S1x1024, .f32⟩
  | .local _ .vmem, ⟨4, _⟩ => ⟨S1024x33, .f32⟩
  | .local _ .vmem, ⟨5, _⟩ => ⟨S8192x32, .f32⟩
  | .local _ .vmem, ⟨6, _⟩ => ⟨S8192x32, .f32⟩
  | .local _ .vmem, ⟨7, _⟩ => ⟨S8192x1, .i32⟩
  | .local _ .vmem, ⟨8, _⟩ => ⟨S8192x1, .i32⟩
  | _, _ => ⟨S64x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_call0_cst_0 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_v9_0 : Ref sig .tc := ⟨.hbm, 13, rfl⟩
abbrev main_call0_v9_1 : Ref sig .tc := ⟨.hbm, 14, rfl⟩
abbrev main_v0_0 : Ref sig .tc := ⟨.hbm, 15, rfl⟩
abbrev main_v0_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x33 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8192x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8192x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S64x1024x32 : Shape := ⟨3, ![64, 1024, 32]⟩
abbrev S1024x32 : Shape := ⟨2, ![1024, 32]⟩
abbrev S65536x32 : Shape := ⟨2, ![65536, 32]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S32x1024 : Shape := ⟨2, ![32, 1024]⟩
abbrev S65536x1024 : Shape := ⟨2, ![65536, 1024]⟩
abbrev S1 : Shape := ⟨1, ![1]⟩
abbrev S1x1 : Shape := ⟨2, ![1, 1]⟩
abbrev S64x1024 : Shape := ⟨2, ![64, 1024]⟩

abbrev nBuf : Space → Nat
  | .hbm => 52
  | .vmem => 0
  | .smem => 0
  | _ => 0

abbrev bufTy : (tb : Table) → Fin (tcTables nBuf tb) → BufTy
  | .hbm, ⟨0, _⟩ => ⟨S64x1024x32, .f32⟩
  | .hbm, ⟨1, _⟩ => ⟨S1024x32, .f32⟩
  | .hbm, ⟨2, _⟩ => ⟨S65536x32, .f32⟩
  | .hbm, ⟨3, _⟩ => ⟨S65536x32, .f32⟩
  | .hbm, ⟨4, _⟩ => ⟨S_, .f32⟩
  | .hbm, ⟨5, _⟩ => ⟨S65536, .f32⟩
  | .hbm, ⟨6, _⟩ => ⟨S65536x1, .f32⟩
  | .hbm, ⟨7, _⟩ => ⟨S1024x32, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S32x1024, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S_, .f32⟩
  | .hbm, ⟨17, _⟩ => ⟨S65536x1024, .f32⟩
  | .hbm, ⟨18, _⟩ => ⟨S65536x1024, .f32⟩
  | .hbm, ⟨19, _⟩ => ⟨S65536x1024, .f32⟩
  | .hbm, ⟨20, _⟩ => ⟨S65536x1024, .i32⟩
  | .hbm, ⟨21, _⟩ => ⟨S_, .f32⟩
  | .hbm, ⟨22, _⟩ => ⟨S_, .i32⟩
  | .hbm, ⟨23, _⟩ => ⟨S65536, .f32⟩
  | .hbm, ⟨24, _⟩ => ⟨S65536, .i32⟩
  | .hbm, ⟨25, _⟩ => ⟨S_, .i32⟩
  | .hbm, ⟨26, _⟩ => ⟨S65536, .i32⟩
  | .hbm, ⟨27, _⟩ => ⟨S65536, .i1⟩
  | .hbm, ⟨28, _⟩ => ⟨S_, .i32⟩
  | .hbm, ⟨29, _⟩ => ⟨S65536, .i32⟩
  | .hbm, ⟨30, _⟩ => ⟨S65536, .i32⟩
  | .hbm, ⟨31, _⟩ => ⟨S65536, .i32⟩
  | .hbm, ⟨32, _⟩ => ⟨S65536x1, .i32⟩
  | .hbm, ⟨33, _⟩ => ⟨S1, .i32⟩
  | .hbm, ⟨34, _⟩ => ⟨S_, .i32⟩
  | .hbm, ⟨35, _⟩ => ⟨S65536x1, .i32⟩
  | .hbm, ⟨36, _⟩ => ⟨S65536x1, .i1⟩
  | .hbm, ⟨37, _⟩ => ⟨S1x1, .i32⟩
  | .hbm, ⟨38, _⟩ => ⟨S65536x1, .i32⟩
  | .hbm, ⟨39, _⟩ => ⟨S65536x1, .i1⟩
  | .hbm, ⟨40, _⟩ => ⟨S65536x1, .i1⟩
  | .hbm, ⟨41, _⟩ => ⟨S_, .i1⟩
  | .hbm, ⟨42, _⟩ => ⟨S65536, .i1⟩
  | .hbm, ⟨43, _⟩ => ⟨S65536x32, .f32⟩
  | .hbm, ⟨44, _⟩ => ⟨S65536x32, .i1⟩
  | .hbm, ⟨45, _⟩ => ⟨S_, .f32⟩
  | .hbm, ⟨46, _⟩ => ⟨S65536x32, .f32⟩
  | .hbm, ⟨47, _⟩ => ⟨S65536x32, .f32⟩
  | .hbm, ⟨48, _⟩ => ⟨S64x1024x32, .f32⟩
  | .hbm, ⟨49, _⟩ => ⟨S64x1024, .i32⟩
  | .hbm, ⟨50, _⟩ => ⟨S64x1024x32, .f32⟩
  | .hbm, ⟨51, _⟩ => ⟨S64x1024x32, .f32⟩
  | _, _ => ⟨S64x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_call0_v0 : Ref sig .tc := ⟨.hbm, 20, rfl⟩
abbrev main_call0_cst : Ref sig .tc := ⟨.hbm, 21, rfl⟩
abbrev main_call0_c : Ref sig .tc := ⟨.hbm, 22, rfl⟩
abbrev main_call0_v1_0 : Ref sig .tc := ⟨.hbm, 23, rfl⟩
abbrev main_v15 : Ref sig .tc := ⟨.hbm, 24, rfl⟩
abbrev main_call1_c : Ref sig .tc := ⟨.hbm, 25, rfl⟩
abbrev main_call1_v0 : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_c_1 : Ref sig .tc := ⟨.hbm, 33, rfl⟩
abbrev main_call1_c_2 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_3 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_call1_cst : Ref sig .tc := ⟨.hbm, 45, rfl⟩
abbrev main_call1_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩

abbrev nD : Nat := 1
abbrev τ : Topo := Topo.v7x

variable {F : FTy → Type} [FloatOps F]
-- ==== Proof.RefRun.lean ====
module

public import proofs.«01_k».proof.Proof.Gen.ReferenceIdeal
public import Idealize.ShloMosaic.Adequacy
public import Idealize.ShloMosaic.Init
public import Idealize.ShloMosaic.Lib.Claim
public import Idealize.ShloMosaic.Lib.Pointwise
public import Idealize.ShloMosaic.Lib.Tactic.CleanTypes

@[expose] public section

noncomputable section

namespace Cert.Proof

open Idealize.ShloMosaic Idealize.SL.Sem Cert.ReferenceIdeal Cert.ReferenceIdeal.Gen

/-- The array of squared distances: row `r` of the flattened `h` against code `k`. -/
def refDist (H : FVec Ideal S64x1024x32 .f32) (C : FVec Ideal S1024x32 .f32) : FVec Ideal S65536x1024 .f32 :=
  subf
    (addf
      (broadcastInDim S65536x1024 ![0, 1] bcast_S65536x1_S65536x1024_0_1
        (broadcastInDim S65536x1 ![0] bcast_S65536_S65536x1_0
          (Host.reduceAdd
            (mulf (shapeCast S65536x32 H shapeCasts_S64x1024x32_S65536x32)
              (shapeCast S65536x32 H shapeCasts_S64x1024x32_S65536x32))
            (constant S_ .f32 0x00000000#32) reducesTo_S65536x32_S65536_d1 h_S_)))
      (broadcastInDim S65536x1024 ![0, 1] bcast_S1x1024_S65536x1024_0_1
        (broadcastInDim S1x1024 ![1] bcast_S1024_S1x1024_1
          (Host.reduceAdd (mulf C C) (constant S_ .f32 0x00000000#32) reducesTo_S1024x32_S1024_d1 h_S_))))
    (mulf (broadcastInDim S65536x1024 ![] bcast_S_S65536x1024 (constant S_ .f32 0x40000000#32))
      (Host.dotGeneral dot_S65536x32_S32x1024_S65536x1024_1_0_0_1_n_n none
        (shapeCast S65536x32 H shapeCasts_S64x1024x32_S65536x32)
        (transpose S32x1024 [1, 0] C transposes_S1024x32_S32x1024_1_0)))

/-- The number of the nearest code of each row of an array of distances. -/
def refArgmin (D : FVec Ideal S65536x1024 .f32) : IVec S65536 32 := fun j =>
  (Host.argReduce reducer_argmin_f32_i32 D (iotaInDim S65536x1024 32 1) (constant (F := Ideal) S_ .f32 0x7F800000#32)
    (constantI S_ 32 0#32) reducesTo_S65536x1024_S65536_d1 h_S_ j).2

/-- The index column `take` gathers by: a negative index counts from the end of the table. -/
def refWrap (I : IVec S65536 32) : IVec S65536x1 32 :=
  broadcastInDim S65536x1 ![0] bcast_S65536_S65536x1_0
    (select (cmpi .slt I (broadcastInDim S65536 ![] bcast_S_S65536 (constantI S_ 32 0#32)))
      (addi I (broadcastInDim S65536 ![] bcast_S_S65536 (constantI S_ 32 1024#32))) I)

/-- The rows of the table `C` at the indices `I`, with a fill value where an index is out of range. -/
def refTake (C : FVec Ideal S1024x32 .f32) (I : IVec S65536 32) : FVec Ideal S65536x32 .f32 :=
  select
    (broadcastInDim S65536x32 ![0] bcast_S65536_S65536x32_0
      (Host.reduce IntOp.andi
        (andi (cmpi .sge (refWrap I) (broadcastInDim S65536x1 ![] bcast_S_S65536x1 (constantI S_ 32 0#32)))
          (cmpi .sle (refWrap I) (broadcastInDim S65536x1 ![0, 1] bcast_S1x1_S65536x1_0_1
            (broadcastInDim S1x1 ![1] bcast_S1_S1x1_1 (constantI S1 32 1023#32)))))
        (constantI S_ 1 1#1) reducesTo_S65536x1_S65536_d1 h_S_))
    (Host.gather gather_S1024x32_S65536x1_S65536x32_1_0_n_n_0_1_132 C (refWrap I))
    (broadcastInDim S65536x32 ![] bcast_S_S65536x32 (constant (F := Ideal) S_ .f32 0x7FC00000#32))

/-- The value in this buffer, read from the buffer's own type, is the value itself. -/
theorem ofBuf_v14 (h1 h2 h3) (v : main_v14.ty.Contents (Elt Ideal)) :
    (StableHlo.TRef.of (T := ⟨S65536x1024, .f32⟩) main_v14 h1 h2 h3).ofBuf v = v := rfl
/-- The value in this buffer, read from the buffer's own type, is the value itself. -/
theorem ofBuf_v15 (h1 h2 h3) (v : main_v15.ty.Contents (Elt Ideal)) :
    (StableHlo.TRef.of (T := ⟨S65536, .i32⟩) main_v15 h1 h2 h3).ofBuf v = v := rfl
/-- The value in this buffer, read into the buffer's own type, is the value itself. -/
theorem toBuf_v15 (h1 h2 h3) (v : main_v15.ty.Contents (Elt Ideal)) :
    (StableHlo.TRef.of (T := ⟨S65536, .i32⟩) main_v15 h1 h2 h3).toBuf v = v := rfl
/-- The value in this buffer, read into the buffer's own type, is the value itself. -/
theorem toBuf_v16 (h1 h2 h3) (v : main_v16.ty.Contents (Elt Ideal)) :
    (StableHlo.TRef.of (T := ⟨S65536x32, .f32⟩) main_v16 h1 h2 h3).toBuf v = v := rfl
/-- The value in this buffer, read from the buffer's own type, is the value itself. -/
theorem ofBuf_arg1 (h1 h2 h3) (v : main_arg1.ty.Contents (Elt Ideal)) :
    (StableHlo.TRef.of (T := ⟨S1024x32, .f32⟩) main_arg1 h1 h2 h3).ofBuf v = v := rfl

set_option maxHeartbeats 1600000 in
/-- The reference's run: its first result is `h + (rows of the codebook − h)`, its second the numbers of the nearest
    codes, and the two arguments end unchanged. -/
theorem ref_run (m : (ℓ : Loc nD τ sig) → Buf (Elt Ideal) ℓ) (g : Dev nD → PrngReg) :
    θ_run (defs (F := Ideal)) (onTc (τ := τ) (main (F := Ideal))) ⟨m, fun _ => 0, g⟩ fun r =>
      ∀ c : Dev nD, r.2.mem ((c.tc : Thread nD τ).loc main_v20) = addf (F := Ideal) (m ((c.tc : Thread nD τ).loc main_arg0))
            (subf (shapeCast S64x1024x32 (refTake (m ((c.tc : Thread nD τ).loc main_arg1)) (refArgmin (refDist (m ((c.tc : Thread nD τ).loc main_arg0)) (m ((c.tc : Thread nD τ).loc main_arg1)))))
              shapeCasts_S65536x32_S64x1024x32) (m ((c.tc : Thread nD τ).loc main_arg0)))
        ∧ r.2.mem ((c.tc : Thread nD τ).loc main_v18) = shapeCast S64x1024 (refArgmin (refDist (m ((c.tc : Thread nD τ).loc main_arg0)) (m ((c.tc : Thread nD τ).loc main_arg1))))
            shapeCasts_S65536_S64x1024
        ∧ r.2.mem ((c.tc : Thread nD τ).loc main_arg0) = m ((c.tc : Thread nD τ).loc main_arg0)
        ∧ r.2.mem ((c.tc : Thread nD τ).loc main_arg1) = m ((c.tc : Thread nD τ).loc main_arg1) := by
  hlo_run
  · simp only [StableHlo.TRef.ofBuf_toBuf]
    rw [toBuf_v16]
    repeat rw [ofBuf_v15]
    repeat rw [toBuf_v15]
    repeat rw [ofBuf_v14]
    repeat rw [ofBuf_arg1]
    unfold refTake refWrap refArgmin refDist
    rfl
  · simp only [StableHlo.TRef.ofBuf_toBuf]
    rw [ofBuf_v14, toBuf_v15]
    have h : ∀ z : IVec S65536 32,
        (fun i => shapeCast main_v18.ty.shape (show main_v15.ty.Contents (Elt Ideal) from z)
          shapeCasts_S65536_S64x1024 i : S64x1024.Idx → BitVec 32)
        = shapeCast S64x1024 z shapeCasts_S65536_S64x1024 := fun _ => rfl
    unfold refArgmin refDist
    refine (h _).trans ?_
    rfl

/-- The reference terminates from every memory with its arguments unchanged, and every semaphore counter ends at zero:
    it has none. -/
theorem ref_frame (m : (ℓ : Loc nD τ sig) → Buf (Elt Ideal) ℓ) (g : Dev nD → PrngReg) :
    θ_run (defs (F := Ideal)) (onTc (τ := τ) (main (F := Ideal))) ⟨m, fun _ => 0, g⟩ fun r =>
      (∀ c : Dev nD, r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  θ_run_mono (ref_run m g) fun r h => ⟨fun c => ⟨(h c).2.2.1, (h c).2.2.2⟩, sem_eq_zero_of_no_sems (by decide) r.2⟩

end Cert.Proof

end
-- ==== Proof.Math.lean ====
module

public import Idealize.ShloMosaic.Lib.Pointwise
public import Idealize.ShloMosaic.PureOps

@[expose] public section

/-! # The nearest code of one row, over the extended reals

One row of the flattened `h` is a function `h : Fin 32 → EReal`, the codebook a function `C : Fin 1024 → Fin 32 → EReal`.
Everything here is about those two functions; no array and no program is mentioned. -/

namespace Cert.Proof

open Idealize.ShloMosaic

/-- The squared distance of the row to code `k`, expanded: `‖h‖² + ‖C k‖² − 2 ⟨h, C k⟩`. -/
noncomputable def sqDist (h : Fin 32 → EReal) (C : Fin 1024 → Fin 32 → EReal) (k : Fin 1024) : EReal :=
  ∑ d, h d * h d + ∑ d, C k d * C k d - 2 * ∑ d, h d * C k d

/-- What the kernel compares instead: `⟨h, −2 C k⟩ + ‖C k‖²`, the squared distance without the row's own `‖h‖²`. -/
noncomputable def score (h : Fin 32 → EReal) (C : Fin 1024 → Fin 32 → EReal) (k : Fin 1024) : EReal :=
  ∑ d, h d * (-2 * C k d) + ∑ d, C k d * C k d

/-- `k` is the one place where `f` is least. -/
def IsArgmin (f : Fin 1024 → EReal) (k : Fin 1024) : Prop := ∀ j, j ≠ k → f k < f j

/-- The cast of a finite sum of reals is the sum of the casts. -/
theorem coe_sum_real {n : Nat} (f : Fin n → ℝ) : ((∑ i, f i : ℝ) : EReal) = ∑ i, (f i : EReal) :=
  map_sum (⟨⟨fun x : ℝ => (x : EReal), EReal.coe_zero⟩, EReal.coe_add⟩ : ℝ →+ EReal) f Finset.univ

/-- A number is at most the minimum of a family exactly when it is at most every member. -/
theorem le_fold_min_iff (f : Fin 1024 → EReal) (x : EReal) :
    x ≤ Finset.univ.fold min ⊤ f ↔ ∀ j, x ≤ f j := by
  rw [Finset.le_fold_min]
  simp

/-- At a unique minimum, `f j` is at most the minimum of `f` for that place and for no other. -/
theorem IsArgmin.le_fold_iff {f : Fin 1024 → EReal} {k : Fin 1024} (hk : IsArgmin f k) (j : Fin 1024) :
    f j ≤ Finset.univ.fold min ⊤ f ↔ j = k := by
  rw [le_fold_min_iff]
  constructor
  · intro h
    by_contra hne
    exact absurd (h k) (not_le.2 (hk j hne))
  · rintro rfl i
    by_cases h : i = j
    · rw [h]
    · exact (hk i h).le

/-- If exactly one entry is at most the minimum, the minimum is attained at one place only. -/
theorem exists_isArgmin (f : Fin 1024 → EReal)
    (h : ∑ k, (if f k ≤ Finset.univ.fold min ⊤ f then (1 : EReal) else 0) = 1) : ∃ k, IsArgmin f k := by
  have hsum : ∑ k, (if f k ≤ Finset.univ.fold min ⊤ f then (1 : EReal) else 0)
      = (((Finset.univ.filter fun k => f k ≤ Finset.univ.fold min ⊤ f).card : ℝ) : EReal) := by
    have : ∀ k, (if f k ≤ Finset.univ.fold min ⊤ f then (1 : EReal) else 0)
        = (((if f k ≤ Finset.univ.fold min ⊤ f then (1 : ℝ) else 0) : ℝ) : EReal) := fun k => by
      split <;> simp
    rw [Finset.sum_congr rfl fun k _ => this k, ← coe_sum_real, Finset.sum_boole]
  rw [hsum, EReal.coe_eq_one] at h
  obtain ⟨k, hk⟩ := Finset.card_eq_one.1 (by exact_mod_cast h)
  have hiff : ∀ j, (∀ i, f j ≤ f i) ↔ j = k := fun j => by
    rw [← le_fold_min_iff, ← Finset.mem_singleton, ← hk]
    simp
  refine ⟨k, fun j hj => ?_⟩
  have hle := (hiff k).2 rfl
  refine lt_of_le_of_ne (hle j) fun he => hj ((hiff j).1 fun i => ?_)
  rw [← he]
  exact hle i

/-- For real entries the two families differ by the constant `‖h‖²`, so they have the same unique minimum. -/
theorem IsArgmin.score {h : Fin 32 → EReal} {C : Fin 1024 → Fin 32 → EReal} {k : Fin 1024}
    (hh : ∀ d, h d ≠ ⊤ ∧ h d ≠ ⊥) (hC : ∀ k d, C k d ≠ ⊤ ∧ C k d ≠ ⊥) (hk : IsArgmin (sqDist h C) k) :
    IsArgmin (score h C) k := by
  lift h to Fin 32 → ℝ using hh
  lift C to Fin 1024 → Fin 32 → ℝ using hC
  have h2 : (2 : EReal) = ((2 : ℝ) : EReal) := rfl
  have hd : ∀ j, sqDist (fun d => (h d : EReal)) (fun k d => (C k d : EReal)) j
      = ((∑ d, h d * h d + ∑ d, C j d * C j d - 2 * ∑ d, h d * C j d : ℝ) : EReal) := fun j => by
    rw [sqDist, h2, EReal.coe_sub, EReal.coe_add, EReal.coe_mul, coe_sum_real, coe_sum_real, coe_sum_real]
    rfl
  have hs : ∀ j, Cert.Proof.score (fun d => (h d : EReal)) (fun k d => (C k d : EReal)) j
      = ((∑ d, h d * (-2 * C j d) + ∑ d, C j d * C j d : ℝ) : EReal) := fun j => by
    rw [Cert.Proof.score, h2, EReal.coe_add, coe_sum_real, coe_sum_real]
    rfl
  intro j hj
  have hlt := hk j hj
  have he : ∀ j, ∑ d, h d * (-2 * C j d) = -(2 * ∑ d, h d * C j d) := fun j => by
    rw [Finset.mul_sum, ← Finset.sum_neg_distrib]
    exact Finset.sum_congr rfl fun d _ => by ring
  change sqDist (fun d => (h d : EReal)) (fun k d => (C k d : EReal)) k < sqDist (fun d => (h d : EReal)) (fun k d => (C k d : EReal)) j at hlt
  change Cert.Proof.score (fun d => (h d : EReal)) (fun k d => (C k d : EReal)) k < Cert.Proof.score (fun d => (h d : EReal)) (fun k d => (C k d : EReal)) j
  rw [hd, hd, EReal.coe_lt_coe_iff] at hlt
  rw [hs, hs, EReal.coe_lt_coe_iff, he, he]
  linarith

/-- A sum weighted by one at `k` and zero elsewhere is the term at `k`, whatever the other terms are. -/
theorem sum_onehot (k : Fin 1024) (w : Fin 1024 → EReal) : ∑ j, (if j = k then (1 : EReal) else 0) * w j = w k := by
  rw [Finset.sum_eq_single k (fun j _ hj => by rw [if_neg hj, zero_mul]) (fun h => absurd (Finset.mem_univ k) h),
    if_pos rfl, one_mul]

/-- A one-bit truth value widened to a 32-bit integer and read as a number is one or zero. -/
theorem toInt_extui_ofBool (p : Prop) [Decidable p] :
    ((((BitVec.ofBool (decide p)).setWidth 32).toInt : ℝ) : EReal) = if p then 1 else 0 := by
  by_cases h : p <;> simp [h]

/-- A one-bit truth value read as an unsigned number is one or zero. -/
theorem toNat_ofBool (p : Prop) [Decidable p] :
    (((BitVec.ofBool (decide p)).toNat : ℝ) : EReal) = if p then 1 else 0 := by
  by_cases h : p <;> simp [h]

/-- Turning the number of a code into a float and back gives the number. -/
theorem fptosi_code (k : Fin 1024) :
    Ideal.fptosi 32 (((BitVec.ofNat 32 k.val).toInt : ℝ) : EReal) = BitVec.ofNat 32 k.val := by
  have hk := k.isLt
  have ht : (BitVec.ofNat 32 k.val).toInt = (k.val : Int) := by
    rw [BitVec.toInt_eq_toNat_of_lt (by rw [BitVec.toNat_ofNat]; omega), BitVec.toNat_ofNat]
    omega
  rw [ht, Ideal.fptosi, Ideal.toIntClamped_coe]
  have h0 : (0 : ℝ) ≤ ((k.val : Int) : ℝ) := by positivity
  rw [if_pos h0, Int.floor_intCast, min_eq_right (by norm_num; omega), max_eq_right (by omega)]
  simp

/-- The float constant the kernel scales the codebook by is `−2`. -/
theorem ofBits_neg_two : Ideal.ofBits .f32 0xC0000000#32 = -2 := by
  simp [Ideal.ofBits, Ideal.ieee, -EReal.coe_mul]
  norm_num
  rfl

/-- The float constant the reference multiplies by is `2`. -/
theorem ofBits_two : Ideal.ofBits .f32 0x40000000#32 = 2 := by
  simp [Ideal.ofBits, Ideal.ieee, -EReal.coe_mul]
  norm_num
  rfl

/-- The float constant every minimum starts from is `+∞`. -/
theorem ofBits_inf : Ideal.ofBits .f32 0x7F800000#32 = ⊤ := by
  simp [Ideal.ofBits, Ideal.ieee]

end Cert.Proof

end
-- ==== Proof.Pre.lean ====
module

public import proofs.«01_k».proof.Pre_finite_no_tie
public import proofs.«01_k».proof.Proof.Gen.Pre_finite_no_tie
public import proofs.«01_k».proof.Proof.Math

@[expose] public section

noncomputable section

namespace Cert.Proof

open Idealize.ShloMosaic Cert.Pre_finite_no_tie

/-- Row `r` of `h`, flattened to 65536 rows of 32 entries. -/
def rowOf (H : FVec Ideal S64x1024x32 .f32) (r : Fin 65536) : Fin 32 → EReal := fun d =>
  H (ix3 ⟨r.val / 1024, by omega⟩ ⟨r.val % 1024, by omega⟩ d)

/-- The codebook by code and coordinate. -/
def codes (C : FVec Ideal S1024x32 .f32) : Fin 1024 → Fin 32 → EReal := fun k d => C (ix2 k d)

/-- A one-bit truth value is one exactly when the proposition holds. -/
theorem ofBool_decide_eq_one (p : Prop) [Decidable p] : BitVec.ofBool (decide p) = 1#1 ↔ p := by
  by_cases h : p <;> simp [h]

/-- A number whose absolute value is below `+∞` is neither infinity. -/
theorem finite_of_abs_lt (x : Ideal .f32) (h : FloatOps.absf x < (⊤ : EReal)) : (x : EReal) ≠ ⊤ ∧ (x : EReal) ≠ ⊥ := by
  rw [Ideal.absf_def] at h
  constructor
  · rintro rfl
    simp at h
  · rintro rfl
    simp at h

/-- The precondition's first part: every entry of `h` is a real number. -/
theorem pre_h {H : FVec Ideal S64x1024x32 .f32} {C : FVec Ideal S1024x32 .f32}
    (h : (fn (F := Ideal) H C).1 = fun _ => 1#1) (r : Fin 65536) (d : Fin 32) :
    rowOf H r d ≠ ⊤ ∧ rowOf H r d ≠ ⊥ := by
  have h := congrFun h (ix3 ⟨r.val / 1024, by omega⟩ ⟨r.val % 1024, by omega⟩ d)
  pointwise [fn, fn_part1] at h
  rw [ofBool_decide_eq_one, ofBits_inf] at h
  exact finite_of_abs_lt _ h

/-- The precondition's second part: every entry of the codebook is a real number. -/
theorem pre_codes {H : FVec Ideal S64x1024x32 .f32} {C : FVec Ideal S1024x32 .f32}
    (h : (fn (F := Ideal) H C).2.1 = fun _ => 1#1) (k : Fin 1024) (d : Fin 32) :
    codes C k d ≠ ⊤ ∧ codes C k d ≠ ⊥ := by
  have h := congrFun h (ix2 k d)
  pointwise [fn, fn_part1] at h
  rw [ofBool_decide_eq_one, ofBits_inf] at h
  exact finite_of_abs_lt _ h

/-- The precondition's third part: each row has one nearest code. -/
theorem pre_nearest {H : FVec Ideal S64x1024x32 .f32} {C : FVec Ideal S1024x32 .f32}
    (h : (fn (F := Ideal) H C).2.2 = fun _ => 1#1) (r : Fin 65536) :
    ∃ k, IsArgmin (sqDist (rowOf H r) (codes C)) k := by
  have h := congrFun h (ix1 r)
  pointwise [fn, fn_part1] at h
  rw [ofBool_decide_eq_one, ofBits_inf, ofBits_two] at h
  refine exists_isArgmin _ (Eq.trans (Finset.sum_congr rfl fun k _ => ?_) h)
  exact (toNat_ofBool _).symm

end Cert.Proof

end
-- ==== Proof.Shapes.lean ====
module

public import Idealize.ShloMosaic.Lib.Pipeline.ValueKit
public import Idealize.ShloMosaic.Lib.Pointwise

@[expose] public section

noncomputable section

namespace Cert.Proof

open Idealize.ShloMosaic

variable {α : Type} {p q r n : Nat}

/-- Splitting the rows of a matrix into `p` groups of `q`: the entry at group `b`, row `s` is the one at row `b * q + s`. -/
theorem split_rows3 (x : (⟨2, ![n, r]⟩ : Shape).Idx → α) (h : (⟨2, ![n, r]⟩ : Shape).ShapeCasts ⟨3, ![p, q, r]⟩)
    (b : Fin p) (s : Fin q) (d : Fin r) (k : Fin n) (hk : k.val = b.val * q + s.val) :
    shapeCast ⟨3, ![p, q, r]⟩ x h (ix3 b s d) = x (ix2 k d) := by
  refine shapeCast_apply _ _ _ _ ?_
  rw [Shape.rowMajor_val_two, Shape.rowMajor_val_three]
  show k.val * r + d.val = (b.val * q + s.val) * r + d.val
  rw [hk]

/-- Merging the `p` groups of `q` rows into one list of rows: the entry at row `b * q + s` is the one at group `b`,
    row `s`. -/
theorem merge_rows3 (x : (⟨3, ![p, q, r]⟩ : Shape).Idx → α) (h : (⟨3, ![p, q, r]⟩ : Shape).ShapeCasts ⟨2, ![n, r]⟩)
    (b : Fin p) (s : Fin q) (d : Fin r) (k : Fin n) (hk : k.val = b.val * q + s.val) :
    shapeCast ⟨2, ![n, r]⟩ x h (ix2 k d) = x (ix3 b s d) := by
  refine shapeCast_apply _ _ _ _ ?_
  rw [Shape.rowMajor_val_two, Shape.rowMajor_val_three]
  show (b.val * q + s.val) * r + d.val = k.val * r + d.val
  rw [hk]

/-- Splitting a list into `p` groups of `q`. -/
theorem split_list (x : (⟨1, ![n]⟩ : Shape).Idx → α) (h : (⟨1, ![n]⟩ : Shape).ShapeCasts ⟨2, ![p, q]⟩)
    (b : Fin p) (s : Fin q) (k : Fin n) (hk : k.val = b.val * q + s.val) :
    shapeCast ⟨2, ![p, q]⟩ x h (ix2 b s) = x (ix1 k) := by
  refine shapeCast_apply _ _ _ _ ?_
  rw [Shape.rowMajor_val_two, Shape.rowMajor_val_one]
  exact hk

/-- Splitting a column into `p` groups of `q`. -/
theorem split_column (x : (⟨2, ![n, 1]⟩ : Shape).Idx → α) (h : (⟨2, ![n, 1]⟩ : Shape).ShapeCasts ⟨2, ![p, q]⟩)
    (b : Fin p) (s : Fin q) (k : Fin n) (hk : k.val = b.val * q + s.val) :
    shapeCast ⟨2, ![p, q]⟩ x h (ix2 b s) = x (ix2 k (0 : Fin 1)) := by
  refine shapeCast_apply _ _ _ _ ?_
  rw [Shape.rowMajor_val_two, Shape.rowMajor_val_two]
  show k.val * 1 + 0 = b.val * q + s.val
  omega

/-- Every index of a one-column matrix is its row at column zero. -/
theorem column_index (y : (⟨2, ![n, 1]⟩ : Shape).Idx) : y = ix2 (y 0) (0 : Fin 1) := by
  have h : ∀ z : Fin 1, ix2 (y 0) z = ix2 (y 0) (0 : Fin 1) := fun z => by rw [Subsingleton.elim z 0]
  exact (eq_ix2 y).trans (h (y 1))

end Cert.Proof

end
-- ==== Proof.RefValue.lean ====
module

public import proofs.«01_k».proof.Proof.RefRun
public import proofs.«01_k».proof.Proof.Pre
public import proofs.«01_k».proof.Proof.Shapes
public import Idealize.ShloMosaic.Lib.Routing.Ops
public import Idealize.ShloMosaic.Lib.Tactic
public import Idealize.ShloMosaic.Lib.Tactic.WordOmega

@[expose] public section

noncomputable section

namespace Cert.Proof

open Idealize.ShloMosaic Cert.ReferenceIdeal Cert.ReferenceIdeal.Gen

/-- The reference's array of distances holds the squared distance of each row to each code. -/
theorem refDist_at (H : FVec Ideal S64x1024x32 .f32) (C : FVec Ideal S1024x32 .f32) (r : Fin 65536) (k : Fin 1024) :
    refDist H C (ix2 r k) = sqDist (rowOf H r) (codes C) k := by
  pointwise [refDist]
  rw [ofBits_two]
  rfl

/-- The step of the search for a minimum, from a pair `a` to the next pair `b`: the lesser value wins, and the lesser
    index at equal values. -/
theorem step_eq (a b : Ideal .f32 × BitVec 32) :
    reducer_argmin_f32_i32 (F := Ideal) a b
      = (if (a.1 : EReal) < b.1 then a.1 else b.1,
         if (a.1 : EReal) < b.1 ∨ ((a.1 : EReal) = b.1 ∧ a.2.slt b.2) then a.2 else b.2) := by
  unfold reducer_argmin_f32_i32
  simp only [Ideal.cmpf_def, Ideal.cmp, Scalar.select, IntOp.ori, IntOp.andi, IntOp.cmpi]
  by_cases h1 : (a.1 : EReal) < b.1 <;> by_cases h2 : (a.1 : EReal) = b.1 <;> by_cases h3 : a.2.slt b.2 <;>
    simp [h1, h2, h3]

/-- A search through a list that holds a pair `p` whose value is below every other pair's, from a start whose value is
    above it, ends at `p`. -/
theorem foldl_step (p : Ideal .f32 × BitVec 32) (l : List (Ideal .f32 × BitVec 32)) :
    ∀ a : Ideal .f32 × BitVec 32, (∀ q ∈ l, q = p ∨ (p.1 : EReal) < q.1) →
      (a = p ∨ ((p.1 : EReal) < a.1 ∧ p ∈ l)) → l.foldl (reducer_argmin_f32_i32 (F := Ideal)) a = p := by
  induction l with
  | nil =>
    rintro a - (h | ⟨-, h⟩)
    · exact h
    · exact absurd h (List.not_mem_nil)
  | cons b l ih =>
    intro a hl ha
    rw [List.foldl_cons]
    refine ih _ (fun q hq => hl q (List.mem_cons_of_mem b hq)) ?_
    rw [step_eq]
    rcases ha with rfl | ⟨ha, hmem⟩
    · left
      rcases hl b List.mem_cons_self with rfl | hb
      · ext <;> simp
      · simp [hb]
    · rcases hl b List.mem_cons_self with rfl | hb
      · left
        simp [ha.not_gt, ha.ne']
      · right
        refine ⟨?_, ?_⟩
        · dsimp only
          split <;> assumption
        · rcases List.mem_cons.1 hmem with rfl | h
          · exact absurd hb (lt_irrefl _)
          · exact h

/-- The pairs a search along row `r` runs through are those of the row's places. -/
theorem mem_fiber_row {n0 n1 : Nat} (x : (⟨2, ![n0, n1]⟩ : Shape).Idx → Ideal .f32) (y : IVec ⟨2, ![n0, n1]⟩ 32)
    (h : (⟨2, ![n0, n1]⟩ : Shape).ReducesTo [1] ⟨1, ![n0]⟩) (r : Fin n0) (q : Ideal .f32 × BitVec 32) :
    q ∈ Host.argReduceFiber x y h (ix1 r) ↔ ∃ j : Fin n1, q = (x (ix2 r j), y (ix2 r j)) := by
  unfold Host.argReduceFiber
  simp only [List.mem_map, List.mem_filter, List.mem_finRange, true_and, decide_eq_true_eq,
    Shape.ReducesTo.fiber_r2_a1]
  constructor
  · rintro ⟨n, ⟨j, hj⟩, rfl⟩
    refine ⟨j, ?_⟩
    rw [← hj]
    rfl
  · rintro ⟨j, rfl⟩
    refine ⟨Shape.rowMajor _ (ix2 r j), ⟨j, ?_⟩, ?_⟩
    · rw [Equiv.symm_apply_apply]
      rfl
    · rw [Equiv.symm_apply_apply]

/-- A search along row `r` that starts above the row's unique least value ends at the place of that value. -/
theorem argReduce_row {n0 n1 : Nat} {u : Shape} (x : (⟨2, ![n0, n1]⟩ : Shape).Idx → Ideal .f32)
    (y : IVec ⟨2, ![n0, n1]⟩ 32) (ix : u.Idx → Ideal .f32) (iy : IVec u 32)
    (h : (⟨2, ![n0, n1]⟩ : Shape).ReducesTo [1] ⟨1, ![n0]⟩) (hu : 0 < u.numel) (r : Fin n0) (k : Fin n1)
    (hk : ∀ j, j ≠ k → (x (ix2 r k) : EReal) < x (ix2 r j)) (hstart : (x (ix2 r k) : EReal) < ix (Shape.Idx.first hu)) :
    Host.argReduce (reducer_argmin_f32_i32 (F := Ideal)) x y ix iy h hu (ix1 r) = (x (ix2 r k), y (ix2 r k)) := by
  rw [Ideal.argReduce_eq_reduce2, Host.reduce2_eq_foldl_fiber]
  refine foldl_step _ _ _ (fun q hq => ?_) (.inr ⟨hstart, (mem_fiber_row x y h r _).2 ⟨k, rfl⟩⟩)
  obtain ⟨j, rfl⟩ := (mem_fiber_row x y h r q).1 hq
  by_cases e : j = k
  · exact .inl (by rw [e])
  · exact .inr (hk j e)

/-- The reference's search as a function of the row. -/
theorem refArgmin_eq (D : FVec Ideal S65536x1024 .f32) : refArgmin D = fun j =>
    (Host.argReduce reducer_argmin_f32_i32 D (iotaInDim S65536x1024 32 1) (constant (F := Ideal) S_ .f32 0x7F800000#32)
      (constantI S_ 32 0#32) reducesTo_S65536x1024_S65536_d1 h_S_ j).2 := by
  unfold refArgmin
  rfl

/-- The reference's search finds the place of a row's unique minimum. -/
theorem refArgmin_at (D : FVec Ideal S65536x1024 .f32) (r : Fin 65536) (k : Fin 1024)
    (hk : IsArgmin (fun j => D (ix2 r j)) k) (hfin : (D (ix2 r k) : EReal) < ⊤) :
    refArgmin D (ix1 r) = BitVec.ofNat 32 k.val := by
  have hstart : (D (ix2 r k) : EReal) < constant (F := Ideal) S_ .f32 0x7F800000#32 (Shape.Idx.first h_S_) := by
    rw [constant_apply]
    exact hfin.trans_eq ofBits_inf.symm
  have hrow := argReduce_row D (iotaInDim S65536x1024 32 1) (constant (F := Ideal) S_ .f32 0x7F800000#32)
    (constantI S_ 32 0#32) reducesTo_S65536x1024_S65536_d1 h_S_ r k hk hstart
  have hiota : iotaInDim S65536x1024 32 1 (ix2 r k) = BitVec.ofNat 32 k.val := rfl
  exact (congrFun (refArgmin_eq D) (ix1 r)).trans ((congrArg Prod.snd hrow).trans hiota)

/-- A row number within the table is left as it is. -/
theorem refWrap_at (I : IVec S65536 32) (r : Fin 65536) (k : Fin 1024) (h : I (ix1 r) = BitVec.ofNat 32 k.val) :
    refWrap I (ix2 r (0 : Fin 1)) = BitVec.ofNat 32 k.val := by
  have hk := k.isLt
  pointwise [refWrap]
  rw [h]
  word_omega

/-- `take` reads the row of the table that the index names. -/
theorem refTake_at (C : FVec Ideal S1024x32 .f32) (I : IVec S65536 32) (r : Fin 65536) (d : Fin 32) (k : Fin 1024)
    (h : I (ix1 r) = BitVec.ofNat 32 k.val) : refTake C I (ix2 r d) = codes C k d := by
  have hw := refWrap_at I r k h
  have hg : Host.gather gather_S1024x32_S65536x1_S65536x32_1_0_n_n_0_1_132 C (refWrap I) (ix2 r d) = C (ix2 k d) :=
    Routing.gather_row _ rfl rfl rfl rfl rfl C (refWrap I) r d k hw (by norm_num)
  unfold refTake
  generalize refWrap I = W at hw hg ⊢
  generalize Host.gather gather_S1024x32_S65536x1_S65536x32_1_0_n_n_0_1_132 C W = G at hg ⊢
  have hk := k.isLt
  have hm : IntOp.andi (IntOp.cmpi .sge (W (ix2 r (0 : Fin 1))) 0#32) (IntOp.cmpi .sle (W (ix2 r (0 : Fin 1))) 1023#32)
      = 1#1 := by
    rw [hw]
    word_omega
  pointwise
  rw [Finset.univ_unique, Finset.fold_singleton]
  change Scalar.select (IntOp.andi (IntOp.andi (IntOp.cmpi .sge (W (ix2 r (0 : Fin 1))) 0#32)
    (IntOp.cmpi .sle (W (ix2 r (0 : Fin 1))) 1023#32)) 1#1) _ _ = _
  rw [hm, hg]
  rfl

/-- The place of row `b`, column `s` in the list of all rows. -/
def flat (b : Fin 64) (s : Fin 1024) : Fin 65536 := ⟨b.val * 1024 + s.val, by omega⟩

/-- The reference's index of a row with a unique nearest code is that code's. -/
theorem ref_index_at (H : FVec Ideal S64x1024x32 .f32) (C : FVec Ideal S1024x32 .f32) (r : Fin 65536) (k : Fin 1024)
    (hk : IsArgmin (sqDist (rowOf H r) (codes C)) k) (hfin : sqDist (rowOf H r) (codes C) k < ⊤) :
    refArgmin (refDist H C) (ix1 r) = BitVec.ofNat 32 k.val := by
  refine refArgmin_at (refDist H C) r k (fun j hj => ?_) ?_
  · simpa only [refDist_at] using hk j hj
  · rwa [refDist_at]

/-- The reference's first result at a row with a unique nearest code. -/
theorem ref_first_at (H : FVec Ideal S64x1024x32 .f32) (C : FVec Ideal S1024x32 .f32) (b : Fin 64) (s : Fin 1024)
    (d : Fin 32) (k : Fin 1024) (hk : IsArgmin (sqDist (rowOf H (flat b s)) (codes C)) k)
    (hfin : sqDist (rowOf H (flat b s)) (codes C) k < ⊤) :
    addf H (subf (shapeCast S64x1024x32 (refTake C (refArgmin (refDist H C))) shapeCasts_S65536x32_S64x1024x32) H)
      (ix3 b s d) = H (ix3 b s d) + (codes C k d - H (ix3 b s d)) := by
  have h := refTake_at C _ (flat b s) d k (ref_index_at H C (flat b s) k hk hfin)
  generalize refTake C (refArgmin (refDist H C)) = T at h ⊢
  have e := split_rows3 T shapeCasts_S65536x32_S64x1024x32 b s d (flat b s) rfl
  rw [addf_apply, subf_apply, e, h]
  rfl

/-- The reference's second result at a row with a unique nearest code. -/
theorem ref_second_at (H : FVec Ideal S64x1024x32 .f32) (C : FVec Ideal S1024x32 .f32) (b : Fin 64) (s : Fin 1024)
    (k : Fin 1024) (hk : IsArgmin (sqDist (rowOf H (flat b s)) (codes C)) k)
    (hfin : sqDist (rowOf H (flat b s)) (codes C) k < ⊤) :
    shapeCast S64x1024 (refArgmin (refDist H C)) shapeCasts_S65536_S64x1024 (ix2 b s) = BitVec.ofNat 32 k.val := by
  have h := ref_index_at H C (flat b s) k hk hfin
  generalize refArgmin (refDist H C) = T at h ⊢
  exact (split_list T shapeCasts_S65536_S64x1024 b s (flat b s) rfl).trans h

end Cert.Proof

end
-- ==== Proof.Entry.lean ====
module

public import proofs.«01_k».proof.Proof.Gen.KernelIdeal.Frame
public import proofs.«01_k».proof.Proof.Math
public import proofs.«01_k».proof.Proof.Shapes
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ) (c : Dev nD)

/-- The first operand of the blocks: `h` as a list of rows. -/
theorem entry_rows : V m c main_call0_v0
    = shapeCast S65536x32 (m ((c : Thread nD τ).loc main_arg0)) shapeCasts_S64x1024x32_S65536x32 := by
  simp only [V, V0, hostOps0, List.flatten_cons, List.flatten_nil, List.append_nil]
  after_results
  rfl

/-- The second operand: `-2` times the codebook, transposed. -/
theorem entry_codes : V m c main_call0_v3
    = mulf (broadcastInDim S32x1024 ![] bcast_S_S32x1024 (constant (F := Ideal) S_ .f32 0xC0000000#32))
      (transpose S32x1024 [1, 0] (m ((c : Thread nD τ).loc main_arg1)) transposes_S1024x32_S32x1024_1_0) := by
  simp only [V, V0, hostOps0, List.flatten_cons, List.flatten_nil, List.append_nil]
  after_results
  simp only [StableHlo.TRef.ofBuf_toBuf]
  rfl

/-- The third operand: each code's square. -/
theorem entry_squares : V m c main_call0_v6
    = broadcastInDim S1x1024 ![1] bcast_S1024_S1x1024_1 (Host.reduceAdd (F := Ideal) (φ := .f32)
      (mulf (m ((c : Thread nD τ).loc main_arg1)) (m ((c : Thread nD τ).loc main_arg1)))
      (constant S_ .f32 0x00000000#32) reducesTo_S1024x32_S1024_d1 h_S_) := by
  simp only [V, V0, hostOps0, List.flatten_cons, List.flatten_nil, List.append_nil]
  after_results
  simp only [StableHlo.TRef.ofBuf_toBuf]
  rfl

/-- The fourth operand: the codebook with a column of row numbers. -/
theorem entry_table : V m c main_call0_v8
    = concatenate S1024x33 1 [⟨S1024x32, m ((c : Thread nD τ).loc main_arg1)⟩,
      ⟨S1024x1, sitofp (F := Ideal) .f32 (iotaInDim S1024x1 32 0)⟩] concatenates_S1024x32_S1024x1_S1024x33_d1 := by
  simp only [V, V0, hostOps0, List.flatten_cons, List.flatten_nil, List.append_nil]
  after_results
  simp only [StableHlo.TRef.ofBuf_toBuf]
  rfl

/-- The row of `h` whose place in the list of rows is `b * 1024 + s`. -/
theorem rows_at (H : FVec Ideal S64x1024x32 .f32) (b : Fin 64) (s : Fin 1024) (d : Fin 32) (r : Fin 65536)
    (hr : r.val = b.val * 1024 + s.val) :
    shapeCast S65536x32 H shapeCasts_S64x1024x32_S65536x32 (ix2 r d) = H (ix3 b s d) :=
  merge_rows3 H shapeCasts_S64x1024x32_S65536x32 b s d r hr

/-- The second operand at an index. -/
theorem codes_at (C : FVec Ideal S1024x32 .f32) (d : Fin 32) (k : Fin 1024) :
    mulf (broadcastInDim S32x1024 ![] bcast_S_S32x1024 (constant (F := Ideal) S_ .f32 0xC0000000#32))
      (transpose S32x1024 [1, 0] C transposes_S1024x32_S32x1024_1_0) (ix2 d k) = (-2 : EReal) * C (ix2 k d) := by
  pointwise
  rw [ofBits_neg_two]

/-- The third operand at an index. -/
theorem squares_at (C : FVec Ideal S1024x32 .f32) (k : Fin 1024) :
    broadcastInDim S1x1024 ![1] bcast_S1024_S1x1024_1 (Host.reduceAdd (F := Ideal) (φ := .f32) (mulf C C)
      (constant S_ .f32 0x00000000#32) reducesTo_S1024x32_S1024_d1 h_S_) (ix2 (0 : Fin 1) k)
      = ∑ d : Fin 32, C (ix2 k d) * C (ix2 k d) := by
  pointwise

/-- The fourth operand at an index within the codebook. -/
theorem table_at (C : FVec Ideal S1024x32 .f32) (k : Fin 1024) (d : Fin 32) :
    concatenate S1024x33 1 [⟨S1024x32, C⟩, ⟨S1024x1, sitofp (F := Ideal) .f32 (iotaInDim S1024x1 32 0)⟩]
      concatenates_S1024x32_S1024x1_S1024x33_d1 (ix2 k (⟨d.val, by omega⟩ : Fin 33)) = C (ix2 k d) := by
  pointwise

/-- The fourth operand at the last column. -/
theorem table_last (C : FVec Ideal S1024x32 .f32) (k : Fin 1024) :
    concatenate S1024x33 1 [⟨S1024x32, C⟩, ⟨S1024x1, sitofp (F := Ideal) .f32 (iotaInDim S1024x1 32 0)⟩]
      concatenates_S1024x32_S1024x1_S1024x33_d1 (ix2 k (32 : Fin 33))
      = (((BitVec.ofNat 32 k.val).toInt : ℝ) : EReal) := by
  pointwise
  rfl

end Cert.Proof

end
-- ==== Proof.Payload.lean ====
module

public import proofs.«01_k».proof.Proof.Gen.KernelIdeal.Skeleton
public import proofs.«01_k».proof.Proof.Math
public import Idealize.ShloMosaic.Lib.Pipeline.ValueKit
public import Idealize.ShloMosaic.Lib.Pointwise

@[expose] public section

set_option maxRecDepth 16384

noncomputable section

namespace Cert.Proof

open Idealize.ShloMosaic Cert.KernelIdeal Cert.KernelIdeal.Gen

/-- The kernel's score of code `k` for row `i` of a block: the product of the row with column `k` of the second operand,
    plus entry `k` of the third. -/
def blockScore (v0 : Vec Ideal S8192x32 .f32) (v2 : Vec Ideal S32x1024 .f32) (v5 : Vec Ideal S1x1024 .f32)
    (i : Fin 8192) (k : Fin 1024) : EReal :=
  ∑ d : Fin 32, v0 (ix2 i d) * v2 (ix2 d k) + v5 (ix2 (0 : Fin 1) k)

/-- The one-hot product of the kernel picks the row of the fourth operand whose score is least. -/
theorem pay2_at (v0 : Vec Ideal S8192x32 .f32) (v2 : Vec Ideal S32x1024 .f32) (v5 : Vec Ideal S1x1024 .f32)
    (v15 : Vec Ideal S1024x33 .f32) (i : Fin 8192) (j : Fin 33) (k : Fin 1024) (hk : IsArgmin (blockScore v0 v2 v5 i) k) :
    k0_pay2 v0 v2 v5 v15 (ix2 i j) = v15 (ix2 k j) := by
  pointwise [k0_pay2, k0_pay1]
  rw [ofBits_inf, ← sum_onehot k fun x => v15 (ix2 x j)]
  refine Finset.sum_congr rfl fun x _ => ?_
  congr 1
  refine (toInt_extui_ofBool _).trans ?_
  exact if_congr (hk.le_fold_iff x) rfl rfl

/-- The value stored as the first result: the row, plus the difference between the picked code and the row. -/
theorem pay3_at (v0 : Vec Ideal S8192x32 .f32) (v2 : Vec Ideal S32x1024 .f32) (v5 : Vec Ideal S1x1024 .f32)
    (v15 : Vec Ideal S1024x33 .f32) (i : Fin 8192) (d : Fin 32) (k : Fin 1024) (hk : IsArgmin (blockScore v0 v2 v5 i) k) :
    k0_pay3 v0 v2 v5 v15 (ix2 i d) = v0 (ix2 i d) + (v15 (ix2 k ⟨d.val, by omega⟩) - v0 (ix2 i d)) := by
  have h := pay2_at v0 v2 v5 v15 i ⟨d.val, by omega⟩ k hk
  unfold k0_pay3
  generalize k0_pay2 v0 v2 v5 v15 = T at h ⊢
  pointwise [k0_pay1]
  rw [h]

/-- The value stored as the second result: the last column of the picked row, as an integer. -/
theorem pay4_at (v0 : Vec Ideal S8192x32 .f32) (v2 : Vec Ideal S32x1024 .f32) (v5 : Vec Ideal S1x1024 .f32)
    (v15 : Vec Ideal S1024x33 .f32) (i : Fin 8192) (k : Fin 1024) (hk : IsArgmin (blockScore v0 v2 v5 i) k) :
    k0_pay4 v0 v2 v5 v15 (ix2 i (0 : Fin 1)) = Ideal.fptosi 32 (v15 (ix2 k (32 : Fin 33))) := by
  have h := pay2_at v0 v2 v5 v15 i 32 k hk
  unfold k0_pay4
  generalize k0_pay2 v0 v2 v5 v15 = T at h ⊢
  pointwise
  rw [h]
  rfl

end Cert.Proof

end
-- ==== Proof.KernelValue.lean ====
module

public import proofs.«01_k».proof.Proof.Entry
public import proofs.«01_k».proof.Proof.Payload
public import proofs.«01_k».proof.Proof.Pre
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

/-- Which block each window visits at each grid point: the rows' windows advance by one block, the others stay. -/
theorem idx : ∀ t : Fin cfg0.N, win0_0.index t = ![t.val, 0] ∧ win0_1.index t = ![0, 0] ∧ win0_2.index t = ![0, 0]
    ∧ win0_3.index t = ![0, 0] ∧ win0_4.index t = ![t.val, 0] ∧ win0_5.index t = ![t.val, 0] :=
  (by decide +kernel : ∀ t : Fin grid0.N, _)

/-- The grid has eight points. -/
theorem points (t : Fin cfg0.N) : t.val < 8 := t.isLt.trans_eq (by decide)

/-- Row `i` of the block visited at point `t`, in the list of all rows. -/
def blockRow (t : Fin cfg0.N) (i : Fin 8192) : Fin 65536 := ⟨t.val * 8192 + i.val, by have := points t; omega⟩

/-- The block of rows at point `t`. -/
theorem block_rows (t : Fin cfg0.N) (i : Fin 8192) (d : Fin 32) :
    iblk m c 0 t (ix2 i d) = rowOf (m ((c : Thread nD τ).loc main_arg0)) (blockRow t i) d := by
  have h : iblk m c 0 t (ix2 i d) = V m c main_call0_v0 (ix2 (blockRow t i) d) := by
    blk_ext [iblk, idx t, blockRow]
  rw [h, entry_rows]
  exact rows_at _ _ _ d (blockRow t i) (Nat.div_add_mod' _ _).symm

/-- The second operand's block is the whole operand. -/
theorem block_codes (t : Fin cfg0.N) (d : Fin 32) (k : Fin 1024) :
    iblk m c 1 t (ix2 d k) = (-2 : EReal) * codes (m ((c : Thread nD τ).loc main_arg1)) k d := by
  have h : iblk m c 1 t (ix2 d k) = V m c main_call0_v3 (ix2 d k) := by
    blk_ext [iblk, idx t]
  rw [h, entry_codes]
  exact codes_at _ d k

/-- The third operand's block is the whole operand. -/
theorem block_squares (t : Fin cfg0.N) (k : Fin 1024) :
    iblk m c 2 t (ix2 (0 : Fin 1) k)
      = ∑ d, codes (m ((c : Thread nD τ).loc main_arg1)) k d * codes (m ((c : Thread nD τ).loc main_arg1)) k d := by
  have h : iblk m c 2 t (ix2 (0 : Fin 1) k) = V m c main_call0_v6 (ix2 (0 : Fin 1) k) := by
    blk_ext [iblk, idx t]
  rw [h, entry_squares]
  exact squares_at _ k

/-- The fourth operand's block is the whole operand: here the codebook. -/
theorem block_table (t : Fin cfg0.N) (k : Fin 1024) (d : Fin 32) :
    iblk m c 3 t (ix2 k (⟨d.val, by omega⟩ : Fin 33)) = codes (m ((c : Thread nD τ).loc main_arg1)) k d := by
  have h : iblk m c 3 t (ix2 k (⟨d.val, by omega⟩ : Fin 33))
      = V m c main_call0_v8 (ix2 k (⟨d.val, by omega⟩ : Fin 33)) := by
    blk_ext [iblk, idx t]
  rw [h, entry_table]
  exact table_at _ k d

/-- The fourth operand's block at the last column: the row's number. -/
theorem block_last (t : Fin cfg0.N) (k : Fin 1024) :
    iblk m c 3 t (ix2 k (32 : Fin 33)) = (((BitVec.ofNat 32 k.val).toInt : ℝ) : EReal) := by
  have h : iblk m c 3 t (ix2 k (32 : Fin 33)) = V m c main_call0_v8 (ix2 k (32 : Fin 33)) := by
    blk_ext [iblk, idx t]
  rw [h, entry_table]
  exact table_last _ k

/-- The kernel's score of a code is `score` of the row and the codebook. -/
theorem blockScore_eq (t : Fin cfg0.N) (i : Fin 8192) :
    blockScore (iblk m c 0 t) (iblk m c 1 t) (iblk m c 2 t) i
      = score (rowOf (m ((c : Thread nD τ).loc main_arg0)) (blockRow t i))
        (codes (m ((c : Thread nD τ).loc main_arg1))) := by
  funext k
  unfold blockScore score
  rw [block_squares]
  congr 1
  refine Finset.sum_congr rfl fun d _ => ?_
  rw [block_rows, block_codes]

/-- The first result as a list of rows, when `near r` is the code nearest to row `r`. -/
def firstRows (H : FVec Ideal S64x1024x32 .f32) (C : FVec Ideal S1024x32 .f32) (near : Fin 65536 → Fin 1024) :
    FVec Ideal S65536x32 .f32 :=
  fun y => rowOf H (y 0) (y 1) + (codes C (near (y 0)) (y 1) - rowOf H (y 0) (y 1))

/-- The second result as a column, when `near r` is the code nearest to row `r`. -/
def secondRows (near : Fin 65536 → Fin 1024) : IVec S65536x1 32 := fun y => BitVec.ofNat 32 (near (y 0)).val

variable (near : Fin 65536 → Fin 1024)
  (hnear : ∀ r, IsArgmin (score (rowOf (m ((c : Thread nD τ).loc main_arg0)) r)
    (codes (m ((c : Thread nD τ).loc main_arg1)))) (near r))

include hnear

/-- What each grid point stores in its block of the first result. -/
theorem first_point (t : Fin cfg0.N) (i : Fin 8192) (d : Fin 32) :
    k0_pay3 (iblk m c 0 t) (iblk m c 1 t) (iblk m c 2 t) (iblk m c 3 t) (ix2 i d)
      = firstRows (m ((c : Thread nD τ).loc main_arg0)) (m ((c : Thread nD τ).loc main_arg1)) near
        (ix2 (blockRow t i) d) := by
  have hk := hnear (blockRow t i)
  rw [← blockScore_eq] at hk
  refine (pay3_at _ _ _ _ i d _ hk).trans ?_
  rw [block_rows, block_table]
  rfl

/-- What each grid point stores in its block of the second result. -/
theorem second_point (t : Fin cfg0.N) (i : Fin 8192) :
    k0_pay4 (iblk m c 0 t) (iblk m c 1 t) (iblk m c 2 t) (iblk m c 3 t) (ix2 i (0 : Fin 1))
      = secondRows near (ix2 (blockRow t i) (0 : Fin 1)) := by
  have hk := hnear (blockRow t i)
  rw [← blockScore_eq] at hk
  refine (pay4_at _ _ _ _ i _ hk).trans ?_
  rw [block_last]
  exact fptosi_code _

end Cert.Proof

end
-- ==== Proof.KernelArray.lean ====
module

public import proofs.«01_k».proof.Proof.KernelValue
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Cert.KernelIdeal Cert.KernelIdeal.Gen
open Idealize.ShloMosaic.Pipeline (Dat)

variable (m : (ℓ : Loc nD τ sig) → Buf (Elt Ideal) ℓ) (c : Dev nD)

variable (near : Fin 65536 → Fin 1024)
  (hnear : ∀ r, IsArgmin (score (rowOf (m ((c : Thread nD τ).loc main_arg0)) r)
    (codes (m ((c : Thread nD τ).loc main_arg1)))) (near r))

include hnear

/-- The array of the first result after the grid has run. -/
theorem first_array : (dats m 0 c).arrAt 4 (cfgs 0).N
    = firstRows (m ((c : Thread nD τ).loc main_arg0)) (m ((c : Thread nD τ).loc main_arg1)) near := by
  refine (dats m 0 c).arrAt_eq_of_covers 4 _ (by decide +kernel) fun t hf y => ?_
  have hy : ((cfg0.win 4).blk t).view.emb y = ix2 (blockRow t (y 0)) (y 1) := by
    blk_ext [idx t, blockRow]
  rw [hy]
  have h := first_point m c near hnear t (y 0) (y 1)
  blk_simp
  rw [after0_4]
  frame_out
  have e : (y : S8192x32.Idx) = ix2 (y 0) (y 1) := eq_ix2 y
  exact (congrArg (k0_pay3 (iblk m c 0 t) (iblk m c 1 t) (iblk m c 2 t) (iblk m c 3 t)) e).trans h

/-- The array of the second result after the grid has run. -/
theorem second_array : (dats m 0 c).arrAt 5 (cfgs 0).N = secondRows near := by
  refine (dats m 0 c).arrAt_eq_of_covers 5 _ (by decide +kernel) fun t hf y => ?_
  have hy : ((cfg0.win 5).blk t).view.emb y = ix2 (blockRow t (y 0)) (0 : Fin 1) := by
    blk_ext [idx t, blockRow]
  rw [hy]
  have h := second_point m c near hnear t (y 0)
  blk_simp
  rw [after0_5]
  frame_out
  have e : (y : S8192x1.Idx) = ix2 (y 0) (0 : Fin 1) := column_index y
  exact (congrArg (k0_pay4 (iblk m c 0 t) (iblk m c 1 t) (iblk m c 2 t) (iblk m c 3 t)) e).trans h

end Cert.Proof

end
-- ==== Proof.KernelRun.lean ====
module

public import proofs.«01_k».proof.Proof.KernelValue
public import Idealize.ShloMosaic.Lib.Pipeline.ValueKit
public import Idealize.ShloMosaic.Lib.Pointwise

@[expose] public section

set_option maxRecDepth 16384

noncomputable section

namespace Cert.Proof

open Idealize.ShloMosaic Idealize.ShloMosaic.TcCoe Cert.KernelIdeal Cert.KernelIdeal.Gen
open Idealize.ShloMosaic.Pipeline (Dat)
open Idealize.SL.Sem

variable (m : (ℓ : Loc nD τ sig) → Buf (Elt Ideal) ℓ)

/-- No two windows of the grid use one array. -/
theorem arrays_distinct : Function.Injective (Pipeline.arrRef spec0) := by
  decide

/-- The first result array ends as the first output window's array, its rows split into 64 groups. -/
theorem first_tail (c : Dev nD) (X : FVec Ideal S65536x32 .f32) (hX : (dats m 0 c).arrAt 4 (cfgs 0).N = X) :
    Pipeline.afterTail₀ cfgs (dats m) 0 (V0 m) [hostOps1] c main_v0_0
      = shapeCast S64x1024x32 X shapeCasts_S65536x32_S64x1024x32 := by
  have e := (Pipeline.withArrays_arr spec0 arrays_distinct c (V0 m c) (fun w => (dats m 0 c).arrAt w (cfgs 0).N) 4).trans hX
  unfold Pipeline.afterTail₀
  simp only [hostOps1, List.flatten_cons, List.flatten_nil, List.append_nil]
  after_results
  exact congrArg (fun Z : FVec Ideal S65536x32 .f32 => shapeCast S64x1024x32 Z shapeCasts_S65536x32_S64x1024x32) e

/-- The second result array ends as the second output window's array, its rows split into 64 groups. -/
theorem second_tail (c : Dev nD) (X : IVec S65536x1 32) (hX : (dats m 0 c).arrAt 5 (cfgs 0).N = X) :
    Pipeline.afterTail₀ cfgs (dats m) 0 (V0 m) [hostOps1] c main_v0_1
      = shapeCast S64x1024 X shapeCasts_S65536x1_S64x1024 := by
  have e := (Pipeline.withArrays_arr spec0 arrays_distinct c (V0 m c) (fun w => (dats m 0 c).arrAt w (cfgs 0).N) 5).trans hX
  unfold Pipeline.afterTail₀
  simp only [hostOps1, List.flatten_cons, List.flatten_nil, List.append_nil]
  after_results
  exact congrArg (fun Z : IVec S65536x1 32 => shapeCast S64x1024 Z shapeCasts_S65536x1_S64x1024) e

/-- The kernel's run, given the two output arrays of its grid: the results are those arrays with their rows split into 64
    groups, and the arguments end unchanged. -/
theorem kernel_run (g : Dev nD → PrngReg) (X : Dev nD → FVec Ideal S65536x32 .f32) (Y : Dev nD → IVec S65536x1 32)
    (hX : ∀ c, (dats m 0 c).arrAt 4 (cfgs 0).N = X c) (hY : ∀ c, (dats m 0 c).arrAt 5 (cfgs 0).N = Y c) :
    θ_run (defs (F := Ideal)) (onTc (τ := τ) (main (F := Ideal))) ⟨m, fun _ => 0, g⟩ fun r => ∀ c : Dev nD,
      r.2.mem ((c.tc : Thread nD τ).loc main_v0_0) = shapeCast S64x1024x32 (X c) shapeCasts_S65536x32_S64x1024x32
      ∧ r.2.mem ((c.tc : Thread nD τ).loc main_v0_1) = shapeCast S64x1024 (Y c) shapeCasts_S65536x1_S64x1024
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0_0 (Pipeline.mem_restRefs_of main_v0_0 (by decide) (by decide))).trans (first_tail m c _ (hX c)),
      ((h c).2 main_v0_1 (Pipeline.mem_restRefs_of main_v0_1 (by decide) (by decide))).trans (second_tail m c _ (hY c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m g)

end Cert.Proof

end
-- ==== Proof.Algebraic.lean ====
module

public import proofs.«01_k».proof.Defs
public import proofs.«01_k».proof.Proof.RefValue
public import proofs.«01_k».proof.Proof.KernelArray
public import proofs.«01_k».proof.Proof.KernelRun

@[expose] public section

set_option maxRecDepth 16384

noncomputable section

namespace Cert.Proof

open Idealize.ShloMosaic Idealize.ShloMosaic.TcCoe Idealize.SL.Sem

/-- What the precondition says of one pair of arguments, in the words of the proof: each row has one nearest code, its
    distance is below infinity, and the kernel's score is least at that code too. -/
theorem near_of_pre {H : FVec Ideal Cert.Pre_finite_no_tie.S64x1024x32 .f32}
    {C : FVec Ideal Cert.Pre_finite_no_tie.S1024x32 .f32}
    (h1 : (Cert.Pre_finite_no_tie.fn (F := Ideal) H C).1 = fun _ => 1#1)
    (h2 : (Cert.Pre_finite_no_tie.fn (F := Ideal) H C).2.1 = fun _ => 1#1)
    (h3 : (Cert.Pre_finite_no_tie.fn (F := Ideal) H C).2.2 = fun _ => 1#1) :
    ∃ near : Fin 65536 → Fin 1024, ∀ r, IsArgmin (sqDist (rowOf H r) (codes C)) (near r)
      ∧ sqDist (rowOf H r) (codes C) (near r) < ⊤ ∧ IsArgmin (score (rowOf H r) (codes C)) (near r) := by
  choose near hnear using pre_nearest h3
  refine ⟨near, fun r => ⟨hnear r, ?_, (hnear r).score (pre_h h1 r) (pre_codes h2)⟩⟩
  have hne : near r + 1 ≠ near r := by
    intro h
    exact absurd (add_eq_left.1 h) (by decide)
  exact lt_of_lt_of_le (hnear r _ hne) le_top

/-- The entry of row `b`, column `s` of `h`, found through the list of all rows. -/
theorem rowOf_flat (H : FVec Ideal Cert.Pre_finite_no_tie.S64x1024x32 .f32) (b : Fin 64) (s : Fin 1024) (d : Fin 32) :
    rowOf H (flat b s) d = H (ix3 b s d) := by
  have hb : (⟨(flat b s).val / 1024, by omega⟩ : Fin 64) = b := Fin.ext (by simp only [flat]; omega)
  have hs : (⟨(flat b s).val % 1024, by omega⟩ : Fin 1024) = s := Fin.ext (by simp only [flat]; omega)
  unfold rowOf
  rw [hb, hs]

/-- The two programs' first results are one array. -/
theorem first_eq (H : FVec Ideal Cert.Pre_finite_no_tie.S64x1024x32 .f32)
    (C : FVec Ideal Cert.Pre_finite_no_tie.S1024x32 .f32) (near : Fin 65536 → Fin 1024)
    (hn : ∀ r, IsArgmin (sqDist (rowOf H r) (codes C)) (near r) ∧ sqDist (rowOf H r) (codes C) (near r) < ⊤) :
    addf H (subf (shapeCast Cert.ReferenceIdeal.S64x1024x32 (refTake C (refArgmin (refDist H C)))
        Cert.ReferenceIdeal.Gen.shapeCasts_S65536x32_S64x1024x32) H)
      = shapeCast Cert.KernelIdeal.S64x1024x32 (firstRows H C near)
        Cert.KernelIdeal.Gen.shapeCasts_S65536x32_S64x1024x32 := by
  funext y
  obtain ⟨b, s, d, rfl⟩ : ∃ (b : Fin 64) (s : Fin 1024) (d : Fin 32), y = ix3 b s d := ⟨y 0, y 1, y 2, eq_ix3 y⟩
  refine (ref_first_at H C b s d _ (hn (flat b s)).1 (hn (flat b s)).2).trans ?_
  refine Eq.trans ?_ (split_rows3 (firstRows H C near) _ b s d (flat b s) rfl).symm
  show _ = rowOf H (flat b s) d + (codes C (near (flat b s)) d - rowOf H (flat b s) d)
  rw [rowOf_flat]

/-- The two programs' second results are one array. -/
theorem second_eq (H : FVec Ideal Cert.Pre_finite_no_tie.S64x1024x32 .f32)
    (C : FVec Ideal Cert.Pre_finite_no_tie.S1024x32 .f32) (near : Fin 65536 → Fin 1024)
    (hn : ∀ r, IsArgmin (sqDist (rowOf H r) (codes C)) (near r) ∧ sqDist (rowOf H r) (codes C) (near r) < ⊤) :
    shapeCast Cert.ReferenceIdeal.S64x1024 (refArgmin (refDist H C))
        Cert.ReferenceIdeal.Gen.shapeCasts_S65536_S64x1024
      = shapeCast Cert.KernelIdeal.S64x1024 (secondRows near) Cert.KernelIdeal.Gen.shapeCasts_S65536x1_S64x1024 := by
  funext y
  obtain ⟨b, s, rfl⟩ : ∃ (b : Fin 64) (s : Fin 1024), y = ix2 b s := ⟨y 0, y 1, eq_ix2 y⟩
  refine (ref_second_at H C b s _ (hn (flat b s)).1 (hn (flat b s)).2).trans ?_
  exact (split_column (secondRows near) _ b s (flat b s) rfl).symm

/-- Under the precondition the kernel and the reference, from memories that agree on the arguments, end with equal
    results. -/
theorem algebraic : Cert.algebraic_KernelIdeal_ReferenceIdeal_pre_finite_no_tie
    (hKernelIdeal := Cert.KernelIdeal.Gen.facts) (hReferenceIdeal := Cert.ReferenceIdeal.Gen.facts)
    (hPre_finite_no_tie := Cert.Pre_finite_no_tie.Gen.facts) := by
  intro m g m' g' hpre hagree
  choose near hn using fun c => near_of_pre (hpre c).1 (hpre c).2.1 (hpre c).2.2
  refine ⟨_, _, kernel_run m g _ _
    (fun c => first_array m c (near c) fun r => (hn c r).2.2) (fun c => second_array m c (near c) fun r => (hn c r).2.2), ?_⟩
  refine (θ_run Cert.ReferenceIdeal.defs _ _).mono (fun r h c => ?_) (ref_run m' g')
  obtain ⟨r1, r2, r3, r4⟩ := h c
  refine ⟨r1.trans ?_, r2.trans ?_, r3, r4⟩
  · rw [(hagree c).1, (hagree c).2]
    exact first_eq _ _ (near c) fun r => ⟨(hn c r).1, (hn c r).2.1⟩
  · rw [(hagree c).1, (hagree c).2]
    exact second_eq _ _ (near c) fun r => ⟨(hn c r).1, (hn c r).2.1⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite_no_tie
public import proofs.«01_k».proof.Proof.RefRun
public import proofs.«01_k».proof.Proof.Algebraic
public import Idealize.ShloMosaic.Adequacy
public import Idealize.ShloMosaic.Init
public import Idealize.ShloMosaic.Lib.Claim

@[expose] public section

noncomputable section

namespace Cert.Proof

open Idealize.ShloMosaic Idealize.SL.Sem Cert.Kernel

/-- Every claim: both programs run and leave their arguments unchanged, and under the precondition their results are equal. -/
theorem claim : Cert.Claim := ⟨Cert.Kernel.Gen.facts, Cert.KernelIdeal.Gen.facts, Cert.ReferenceIdeal.Gen.facts, Cert.Pre_finite_no_tie.Gen.facts, by
  refine ⟨fun m g _ => Cert.Kernel.Gen.frame m g, fun m g _ => Cert.KernelIdeal.Gen.frame m g,
    fun m g _ => Cert.KernelIdeal.Gen.frame m g, fun m g _ => ref_frame m g,
    fun m g _ => ref_frame m g, trivial, algebraic⟩⟩

end Cert.Proof

end
